-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_general_position [hPre_general_position : Cert.Pre_general_position.Facts] (m : (ℓ : Loc Cert.KernelIdeal.nD Cert.KernelIdeal.τ Cert.KernelIdeal.sig) → Buf (Elt Ideal) ℓ) : Prop :=
  ∀ c : Dev Cert.KernelIdeal.nD,
    (Cert.Pre_general_position.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_general_position [hPre_general_position : Cert.Pre_general_position.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_general_position.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_general_position [hKernelIdeal : Cert.KernelIdeal.Facts] [hPre_general_position : Cert.Pre_general_position.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_general_position m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_general_position [hReferenceIdeal : Cert.ReferenceIdeal.Facts] [hPre_general_position : Cert.Pre_general_position.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_general_position m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_general_position [hKernelIdeal : Cert.KernelIdeal.Facts] [hReferenceIdeal : Cert.ReferenceIdeal.Facts] [hPre_general_position : Cert.Pre_general_position.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_general_position m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_general_position : Cert.Pre_general_position.Facts),
    quiescent_Kernel (hKernel := hKernel)
    ∧ quiescent_KernelIdeal (hKernelIdeal := hKernelIdeal)
    ∧ quiescent_KernelIdeal_pre_general_position (hKernelIdeal := hKernelIdeal) (hPre_general_position := hPre_general_position)
    ∧ quiescent_ReferenceIdeal (hReferenceIdeal := hReferenceIdeal)
    ∧ quiescent_ReferenceIdeal_pre_general_position (hReferenceIdeal := hReferenceIdeal) (hPre_general_position := hPre_general_position)
    ∧ preserves_Kernel_KernelIdeal
    ∧ algebraic_KernelIdeal_ReferenceIdeal_pre_general_position (hKernelIdeal := hKernelIdeal) (hReferenceIdeal := hReferenceIdeal) (hPre_general_position := hPre_general_position)
-- ==== Pre_general_position.lean ====
abbrev S4096x3 : Shape := ⟨2, ![4096, 3]⟩
abbrev S4096x1x3 : Shape := ⟨3, ![4096, 1, 3]⟩
abbrev S1x4096x3 : Shape := ⟨3, ![1, 4096, 3]⟩
abbrev S4096x4096x3 : Shape := ⟨3, ![4096, 4096, 3]⟩
abbrev S_ : Shape := ⟨0, ![]⟩
abbrev S4096x4096 : Shape := ⟨2, ![4096, 4096]⟩

class Facts : Prop where
  bcast_S4096x3_S4096x1x3_0_2 : S4096x3.BroadcastsInDim S4096x1x3 (![0, 2] : Fin 2 → Fin S4096x1x3.rank)
  bcast_S4096x3_S1x4096x3_1_2 : S4096x3.BroadcastsInDim S1x4096x3 (![1, 2] : Fin 2 → Fin S1x4096x3.rank)
  bcast_S4096x1x3_S4096x4096x3_0_1_2 : S4096x1x3.BroadcastsInDim S4096x4096x3 (![0, 1, 2] : Fin 3 → Fin S4096x4096x3.rank)
  bcast_S1x4096x3_S4096x4096x3_0_1_2 : S1x4096x3.BroadcastsInDim S4096x4096x3 (![0, 1, 2] : Fin 3 → Fin S4096x4096x3.rank)
  reducesTo_S4096x4096x3_S4096x4096_d2 : S4096x4096x3.ReducesTo [2] S4096x4096
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_v6 : FVec F S4096x4096 .f32) (main_v18 : IVec S4096x4096 1) (main_v19 : FVec F S4096x4096 .f32) : IVec S_ 1 :=
  let main_v20 : FVec F S4096x4096 .f32 := addf main_v6 main_v19
  let main_cst_2 : FVec F S_ .f32 := constant S_ .f32 0x41C80000#32
  let main_v21 : FVec F S4096x4096 .f32 := broadcastInDim S4096x4096 ![] bcast_S_S4096x4096 main_cst_2
  let main_v22 : IVec S4096x4096 1 := cmpf .ole main_v20 main_v21
  let main_cst_3 : FVec F S_ .f32 := constant S_ .f32 0x41C80001#32
  let main_v23 : FVec F S4096x4096 .f32 := broadcastInDim S4096x4096 ![] bcast_S_S4096x4096 main_cst_3
  let main_v24 : IVec S4096x4096 1 := cmpf .ogt main_v6 main_v23
  let main_v25 : IVec S4096x4096 1 := ori main_v22 main_v24
  let main_v26 : IVec S4096x4096 1 := andi main_v18 main_v25
  let main_c_4 : IVec S_ 1 := constantI S_ 1 1#1
  let main_v27 : IVec S_ 1 := (fun x v => Host.reduce IntOp.andi x v reducesTo_S4096x4096_S_d0_1 h_S_) main_v26 main_c_4
  main_v27

def fn {F : FTy → Type} [FloatOps F] (main_arg0 : FVec F S4096x3 .f32) : IVec S_ 1 :=
  let main_v0 : FVec F S4096x1x3 .f32 := broadcastInDim S4096x1x3 ![0, 2] bcast_S4096x3_S4096x1x3_0_2 main_arg0
  let main_v1 : FVec F S1x4096x3 .f32 := broadcastInDim S1x4096x3 ![1, 2] bcast_S4096x3_S1x4096x3_1_2 main_arg0
  let main_v2 : FVec F S4096x4096x3 .f32 := broadcastInDim S4096x4096x3 ![0, 1, 2] bcast_S4096x1x3_S4096x4096x3_0_1_2 main_v0
  let main_v3 : FVec F S4096x4096x3 .f32 := broadcastInDim S4096x4096x3 ![0, 1, 2] bcast_S1x4096x3_S4096x4096x3_0_1_2 main_v1
  let main_v4 : FVec F S4096x4096x3 .f32 := subf main_v2 main_v3
  let main_v5 : FVec F S4096x4096x3 .f32 := mulf main_v4 main_v4
  let main_cst : FVec F S_ .f32 := constant S_ .f32 0x00000000#32
  let main_v6 : FVec F S4096x4096 .f32 := (fun x v => Host.reduceAdd x v reducesTo_S4096x4096x3_S4096x4096_d2 h_S_) main_v5 main_cst
  let main_v7 : FVec F S4096x1x3 .f32 := broadcastInDim S4096x1x3 ![0, 2] bcast_S4096x3_S4096x1x3_0_2 main_arg0
  let main_v8 : FVec F S1x4096x3 .f32 := broadcastInDim S1x4096x3 ![1, 2] bcast_S4096x3_S1x4096x3_1_2 main_arg0
  let main_v9 : FVec F S4096x4096x3 .f32 := broadcastInDim S4096x4096x3 ![0, 1, 2] bcast_S4096x1x3_S4096x4096x3_0_1_2 main_v7
  let main_v10 : FVec F S4096x4096x3 .f32 := broadcastInDim S4096x4096x3 ![0, 1, 2] bcast_S1x4096x3_S4096x4096x3_0_1_2 main_v8
  let main_v11 : IVec S4096x4096x3 1 := cmpf .une main_v9 main_v10
  let main_c : IVec S_ 1 := constantI S_ 1 0#1
  let main_v12 : IVec S4096x4096 1 := (fun x v => Host.reduce IntOp.ori x v reducesTo_S4096x4096x3_S4096x4096_d2 h_S_) main_v11 main_c
  let main_v13 : IVec S4096x4096 32 := iotaInDim S4096x4096 32 0
  let main_v14 : IVec S4096x4096 32 := iotaInDim S4096x4096 32 1
  let main_c_0 : IVec S_ 32 := constantI S_ 32 0#32
  let main_v15 : IVec S4096x4096 32 := broadcastInDim S4096x4096 ![] bcast_S_S4096x4096 main_c_0
  let main_v16 : IVec S4096x4096 32 := addi main_v13 main_v15
  let main_v17 : IVec S4096x4096 1 := cmpi .eq main_v16 main_v14
  let main_v18 : IVec S4096x4096 1 := ori main_v12 main_v17
  let main_cst_1 : FVec F S_ .f32 := constant S_ .f32 0x2B8CBCCC#32
  let main_v19 : FVec F S4096x4096 .f32 := broadcastInDim S4096x4096 ![] bcast_S_S4096x4096 main_cst_1
  fn_part1 (F := F) main_v6 main_v18 main_v19
-- ==== Kernel.lean ====
abbrev S4096x3 : Shape := ⟨2, ![4096, 3]⟩
abbrev S3x4096 : Shape := ⟨2, ![3, 4096]⟩
abbrev S4096x4096 : Shape := ⟨2, ![4096, 4096]⟩
abbrev S4096x1 : Shape := ⟨2, ![4096, 1]⟩
abbrev S256x3 : Shape := ⟨2, ![256, 3]⟩
abbrev S256x4096 : Shape := ⟨2, ![256, 4096]⟩
abbrev S256x1 : Shape := ⟨2, ![256, 1]⟩
abbrev S3x1024 : Shape := ⟨2, ![3, 1024]⟩
abbrev S1x1024 : Shape := ⟨2, ![1, 1024]⟩
abbrev S256x1024 : Shape := ⟨2, ![256, 1024]⟩
abbrev S256 : Shape := ⟨1, ![256]⟩
abbrev S_ : Shape := ⟨0, ![]⟩
abbrev S4096 : Shape := ⟨1, ![4096]⟩

abbrev nBuf : Space → Nat
  | .hbm => 10
  | .vmem => 9
  | .smem => 0
  | _ => 0

abbrev bufTy : (tb : Table) → Fin (tcTables nBuf tb) → BufTy
  | .hbm, ⟨0, _⟩ => ⟨S4096x3, .f32⟩
  | .hbm, ⟨1, _⟩ => ⟨S3x4096, .f32⟩
  | .hbm, ⟨2, _⟩ => ⟨S4096x4096, .f32⟩
  | .hbm, ⟨3, _⟩ => ⟨S4096x4096, .i8⟩
  | .hbm, ⟨4, _⟩ => ⟨S4096x1, .i32⟩
  | .hbm, ⟨5, _⟩ => ⟨S_, .i8⟩
  | .hbm, ⟨6, _⟩ => ⟨S4096x4096, .i8⟩
  | .hbm, ⟨7, _⟩ => ⟨S4096x4096, .i1⟩
  | .hbm, ⟨8, _⟩ => ⟨S4096x4096, .i1⟩
  | .hbm, ⟨9, _⟩ => ⟨S4096, .i32⟩
  | .local _ .vmem, ⟨0, _⟩ => ⟨S256x3, .f32⟩
  | .local _ .vmem, ⟨1, _⟩ => ⟨S256x3, .f32⟩
  | .local _ .vmem, ⟨2, _⟩ => ⟨S3x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .i8⟩
  | .local _ .vmem, ⟨6, _⟩ => ⟨S256x4096, .i8⟩
  | .local _ .vmem, ⟨7, _⟩ => ⟨S256x1, .i32⟩
  | .local _ .vmem, ⟨8, _⟩ => ⟨S256x1, .i32⟩
  | _, _ => ⟨S4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x3 : Shape := ⟨2, ![4096, 3]⟩
abbrev S4096x1x3 : Shape := ⟨3, ![4096, 1, 3]⟩
abbrev S1x4096x3 : Shape := ⟨3, ![1, 4096, 3]⟩
abbrev S4096x4096x3 : Shape := ⟨3, ![4096, 4096, 3]⟩
abbrev S_ : Shape := ⟨0, ![]⟩
abbrev S4096x4096 : Shape := ⟨2, ![4096, 4096]⟩
abbrev S4096 : Shape := ⟨1, ![4096]⟩

abbrev nBuf : Space → Nat
  | .hbm => 32
  | .vmem => 0
  | .smem => 0
  | _ => 0

abbrev bufTy : (tb : Table) → Fin (tcTables nBuf tb) → BufTy
  | .hbm, ⟨0, _⟩ => ⟨S4096x3, .f32⟩
  | .hbm, ⟨1, _⟩ => ⟨S4096x1x3, .f32⟩
  | .hbm, ⟨2, _⟩ => ⟨S1x4096x3, .f32⟩
  | .hbm, ⟨3, _⟩ => ⟨S4096x4096x3, .f32⟩
  | .hbm, ⟨4, _⟩ => ⟨S4096x4096x3, .f32⟩
  | .hbm, ⟨5, _⟩ => ⟨S4096x4096x3, .f32⟩
  | .hbm, ⟨6, _⟩ => ⟨S4096x4096x3, .f32⟩
  | .hbm, ⟨7, _⟩ => ⟨S_, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .i1⟩
  | .hbm, ⟨16, _⟩ => ⟨S4096x4096, .i32⟩
  | .hbm, ⟨17, _⟩ => ⟨S4096x4096, .i32⟩
  | .hbm, ⟨18, _⟩ => ⟨S_, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S4096x4096, .i1⟩
  | .hbm, ⟨23, _⟩ => ⟨S4096x4096, .i1⟩
  | .hbm, ⟨24, _⟩ => ⟨S4096x4096, .f32⟩
  | .hbm, ⟨25, _⟩ => ⟨S_, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .i32⟩
  | .hbm, ⟨30, _⟩ => ⟨S_, .i32⟩
  | .hbm, ⟨31, _⟩ => ⟨S4096, .i32⟩
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Proof.Pair.lean ====
/- One pair of atoms, in extended reals: the squared distance, the kernel's test and length on it, the reference's test
   and length on it, and the agreement of the two. No program occurs in this module. -/
module

public import Idealize.ShloMosaic.PureOps.Ideal
public import Idealize.ShloMosaic.PureOps.Ideal.Laws
public import Idealize.ShloMosaic.Lib.Pointwise
public import Idealize.ShloMosaic.Lib.Claim

@[expose] public section

noncomputable section

namespace Cert.Pair

open Idealize.ShloMosaic

/-! ## The four literals -/

/-- The reference's `1e-12`, as the binary32 number nearest to it. -/
def eps : ℝ := 2305843 / 2305843009213693952

/-- The kernel's threshold: the binary32 number after 25. -/
def after25 : ℝ := 13107201 / 524288

/-! Each literal's bits are the number named above. -/

theorem lit_zero : Ideal.ofBits .f32 0x00000000#32 = 0 := by simp [Ideal.ofBits, Ideal.ieee]

theorem lit_eps : Ideal.ofBits .f32 0x2B8CBCCC#32 = ((eps : ℝ) : EReal) := by
  simp [Ideal.ofBits, Ideal.ieee, eps, -EReal.coe_mul]; norm_num

theorem lit_after25 : Ideal.ofBits .f32 0x41C80001#32 = ((after25 : ℝ) : EReal) := by
  simp [Ideal.ofBits, Ideal.ieee, after25, -EReal.coe_mul]; norm_num

theorem lit_25 : Ideal.ofBits .f32 0x41C80000#32 = ((25 : ℝ) : EReal) := by
  simp [Ideal.ofBits, Ideal.ieee, -EReal.coe_mul]; norm_num

theorem lit_5 : Ideal.ofBits .f32 0x40A00000#32 = ((5 : ℝ) : EReal) := by
  simp [Ideal.ofBits, Ideal.ieee, -EReal.coe_mul]; norm_num

/-- The added `1e-12` is positive, and the kernel's threshold is past 25. -/
theorem eps_pos : 0 < eps := by norm_num [eps]
theorem after25_gt : 25 < after25 := by norm_num [after25]

/-! ## The squared distance -/

/-- The squared distance of the points `(a, b, c)` and `(a', b', c')`, added in the order both programs add it. -/
def d2 (a b c a' b' c' : EReal) : EReal := (a - a') * (a - a') + (b - b') * (b - b') + (c - c') * (c - c')

/-- A square is not negative. -/
theorem sq_nonneg' (x : EReal) : 0 ≤ x * x := by
  rcases le_total 0 x with h | h
  · exact EReal.mul_nonneg h h
  · have := EReal.mul_nonneg (EReal.neg_nonneg.mpr h) (EReal.neg_nonneg.mpr h)
    rwa [neg_mul_neg] at this

/-- The square of what is not zero is positive. -/
theorem sq_pos' {x : EReal} (h : x ≠ 0) : 0 < x * x := by
  induction x with
  | bot => simp
  | top => simp
  | coe r =>
    have hr : r ≠ 0 := fun e => h (by rw [e]; rfl)
    rw [← EReal.coe_mul]
    exact_mod_cast mul_self_pos.mpr hr

/-- The difference of two extended reals that are not the same is not zero. -/
theorem sub_ne_zero' {x y : EReal} (h : x ≠ y) : x - y ≠ 0 := by
  induction x with
  | bot => induction y <;> simp_all
  | top => induction y <;> simp_all
  | coe r =>
    induction y with
    | bot => simp
    | top => simp
    | coe s =>
      rw [← EReal.coe_sub]
      exact_mod_cast sub_ne_zero.mpr fun e => h (by rw [e])

/-- A squared distance is not negative. -/
theorem d2_nonneg (a b c a' b' c' : EReal) : 0 ≤ d2 a b c a' b' c' :=
  add_nonneg (add_nonneg (sq_nonneg' _) (sq_nonneg' _)) (sq_nonneg' _)

/-- Two points with some coordinate different are at a positive squared distance. -/
theorem d2_pos {a b c a' b' c' : EReal} (h : a ≠ a' ∨ b ≠ b' ∨ c ≠ c') : 0 < d2 a b c a' b' c' := by
  unfold d2
  rcases h with h | h | h
  · exact lt_of_lt_of_le (sq_pos' (sub_ne_zero' h))
      ((le_add_of_nonneg_right (sq_nonneg' _)).trans (le_add_of_nonneg_right (sq_nonneg' _)))
  · exact lt_of_lt_of_le (sq_pos' (sub_ne_zero' h))
      ((le_add_of_nonneg_left (sq_nonneg' _)).trans (le_add_of_nonneg_right (sq_nonneg' _)))
  · exact lt_of_lt_of_le (sq_pos' (sub_ne_zero' h))
      (le_add_of_nonneg_left (add_nonneg (sq_nonneg' _) (sq_nonneg' _)))

/-- The square of a coordinate's difference from itself is nothing (a finite coordinate) or infinite. -/
theorem self_sq (x : EReal) : (x - x) * (x - x) = 0 ∨ (x - x) * (x - x) = ⊤ := by
  induction x with
  | bot => right; simp
  | top => right; simp
  | coe r => left; rw [← EReal.coe_sub, sub_self]; simp

/-- A point is at squared distance zero from itself, or infinity where a coordinate is infinite. -/
theorem d2_self (a b c : EReal) : d2 a b c a b c = 0 ∨ d2 a b c a b c = ⊤ := by
  unfold d2
  rcases self_sq a with h1 | h1 <;> rcases self_sq b with h2 | h2 <;> rcases self_sq c with h3 | h3 <;>
    rw [h1, h2, h3] <;> simp

/-! ## The two programs' tests and lengths -/

/-- The kernel's test of a squared distance: at most the number after 25, and not zero. -/
def near (d : EReal) : BitVec 1 :=
  IntOp.andi (Ideal.cmp .ole d (Ideal.ofBits .f32 0x41C80001#32)) (Ideal.cmp .one d (Ideal.ofBits .f32 0x00000000#32))

/-- The kernel's length: the squared distance times its reciprocal root where the test holds, else zero. -/
def len (d : EReal) : EReal := Scalar.select (near d) (d * Ideal.rsqrt d) (Ideal.ofBits .f32 0x00000000#32)

/-- The reference's test of a squared distance of two atoms, `e` telling whether they are one atom. -/
def near' (d : EReal) (e : BitVec 1) : BitVec 1 :=
  IntOp.andi (Ideal.cmp .ole (Ideal.sqrt (d + Ideal.ofBits .f32 0x2B8CBCCC#32)) (Ideal.ofBits .f32 0x40A00000#32)) (~~~ e)

/-- The reference's length: the root of the squared distance where the test holds, else zero. -/
def len' (d : EReal) (e : BitVec 1) : EReal := Scalar.select (near' d e) (Ideal.sqrt d) (Ideal.ofBits .f32 0x00000000#32)

/-- The kernel's test, read as a proposition. -/
theorem near_eq (d : EReal) : near d = BitVec.ofBool (decide (d ≤ (after25 : ℝ) ∧ d ≠ 0)) := by
  unfold near; rw [lit_after25, lit_zero]
  show BitVec.ofBool (decide _) &&& BitVec.ofBool (decide _) = _
  by_cases h1 : d ≤ ((after25 : ℝ) : EReal) <;> by_cases h2 : d = 0 <;> simp [h1, h2]

/-- The root of a squared distance is at most 5 exactly when the squared distance is at most 25. -/
theorem sqrt_le_five {d : EReal} (h : 0 ≤ d) : Ideal.sqrt d ≤ ((5 : ℝ) : EReal) ↔ d ≤ ((25 : ℝ) : EReal) := by
  induction d with
  | bot => simp at h
  | top => simp [Ideal.sqrt_top]
  | coe r =>
    have hr : 0 ≤ r := by exact_mod_cast h
    rw [Ideal.sqrt_coe, if_neg (not_lt.mpr hr), EReal.coe_le_coe_iff, EReal.coe_le_coe_iff, Real.sqrt_le_left (by norm_num)]
    norm_num

/-- The reference's test, read as a proposition, for a squared distance that is not negative. -/
theorem near'_eq {d : EReal} (h : 0 ≤ d) (e : BitVec 1) :
    near' d e = BitVec.ofBool (decide (d + (eps : ℝ) ≤ ((25 : ℝ) : EReal) ∧ e ≠ 1#1)) := by
  have h' : 0 ≤ d + ((eps : ℝ) : EReal) := add_nonneg h (by exact_mod_cast eps_pos.le)
  unfold near'; rw [lit_eps, lit_5]
  show BitVec.ofBool (decide _) &&& ~~~ e = _
  rcases BitVec.eq_zero_or_eq_one e with rfl | rfl <;>
    by_cases h1 : d + ((eps : ℝ) : EReal) ≤ ((25 : ℝ) : EReal) <;> simp [sqrt_le_five h', h1]

/-! ## They agree -/

/-- What the precondition says of two atoms with squared distance `d`: it is at most 25 once the reference's `1e-12` is
    added, or it is past the kernel's threshold. -/
def OffCutoff (d : EReal) : Prop := d + (eps : ℝ) ≤ ((25 : ℝ) : EReal) ∨ ((after25 : ℝ) : EReal) < d

/-- Off the cutoff, the two thresholds separate the same squared distances. -/
theorem cutoff_iff {d : EReal} (h : OffCutoff d) : d ≤ ((after25 : ℝ) : EReal) ↔ d + (eps : ℝ) ≤ ((25 : ℝ) : EReal) := by
  have hle : d ≤ d + ((eps : ℝ) : EReal) := le_add_of_nonneg_right (by exact_mod_cast eps_pos.le)
  have h25 : ((25 : ℝ) : EReal) ≤ ((after25 : ℝ) : EReal) := by exact_mod_cast after25_gt.le
  constructor
  · intro hd
    rcases h with h | h
    · exact h
    · exact absurd hd (not_le.mpr h)
  · intro hd; exact (hle.trans hd).trans h25

/-- The two tests agree on one atom with itself. -/
theorem near_self {d : EReal} (h : d = 0 ∨ d = ⊤) : near d = near' d 1#1 := by
  have h0 : 0 ≤ d := by rcases h with rfl | rfl <;> simp
  rw [near_eq, near'_eq h0]
  rcases h with rfl | rfl <;> simp

/-- The two tests agree on two atoms at a positive squared distance off the cutoff. -/
theorem near_ne {d : EReal} (hd : 0 < d) (h : OffCutoff d) : near d = near' d 0#1 := by
  rw [near_eq, near'_eq hd.le]
  congr 1
  rw [decide_eq_decide]
  exact ⟨fun h1 => ⟨(cutoff_iff h).mp h1.1, by decide⟩, fun h1 => ⟨(cutoff_iff h).mpr h1.1, hd.ne'⟩⟩

/-- A positive squared distance times its reciprocal root is its root, unless it is infinite. -/
theorem mul_rsqrt {d : EReal} (h0 : 0 < d) (h1 : d ≠ ⊤) : d * Ideal.rsqrt d = Ideal.sqrt d := by
  induction d with
  | bot => simp at h0
  | top => exact absurd rfl h1
  | coe r =>
    have hr : 0 < r := by exact_mod_cast h0
    rw [Ideal.rsqrt_coe, Ideal.sqrt_coe, if_neg (not_lt.mpr hr.le), if_neg hr.ne', if_neg (not_lt.mpr hr.le), ← EReal.coe_mul]
    congr 1
    rw [← div_eq_mul_inv, Real.div_sqrt]

/-- Where the tests agree and no negative number is rooted, the lengths agree. -/
theorem len_eq {d : EReal} (h0 : 0 ≤ d) {e : BitVec 1} (h : near d = near' d e) : len d = len' d e := by
  unfold len len'
  rw [← h, near_eq]
  by_cases hc : d ≤ ((after25 : ℝ) : EReal) ∧ d ≠ 0
  · have hpos : 0 < d := lt_of_le_of_ne h0 (Ne.symm hc.2)
    have htop : d ≠ ⊤ := fun e => by rw [e] at hc; exact absurd hc.1 (by simp)
    rw [mul_rsqrt hpos htop]
  · simp [hc, Scalar.select]

end Cert.Pair

end
-- ==== Proof.Count.lean ====
/- Counting in 32-bit words: a sum over 4096 places taken in four runs. No program occurs in this module. -/
module

public import Idealize.ShloMosaic.Lib.Pointwise
public import Mathlib.Data.BitVec

@[expose] public section

noncomputable section

namespace Cert.Count

open Idealize.ShloMosaic

/-- A fold of machine additions from zero is the sum. -/
theorem fold_addi {ι : Type} (s : Finset ι) (f : ι → BitVec 32) : s.fold IntOp.addi 0#32 f = ∑ k ∈ s, f k := rfl

/-- A sum over 4096 places is the four sums over the successive runs of 1024. -/
theorem sum_split (g : ℕ → BitVec 32) :
    ∑ k : Fin 4096, g k = ∑ x : Fin 1024, g x + ∑ x : Fin 1024, g (1024 + x) + ∑ x : Fin 1024, g (2048 + x)
      + ∑ x : Fin 1024, g (3072 + x) := by
  have h3 : ∑ k ∈ Finset.range 4096, g k = _ := Finset.sum_range_add g 3072 1024
  have h2 : ∑ k ∈ Finset.range 3072, g k = _ := Finset.sum_range_add g 2048 1024
  have h1 : ∑ k ∈ Finset.range 2048, g k = _ := Finset.sum_range_add g 1024 1024
  rw [Fin.sum_univ_eq_sum_range g 4096, h3, h2, h1, Fin.sum_univ_eq_sum_range g 1024,
    Fin.sum_univ_eq_sum_range (fun x => g (1024 + x)) 1024, Fin.sum_univ_eq_sum_range (fun x => g (2048 + x)) 1024,
    Fin.sum_univ_eq_sum_range (fun x => g (3072 + x)) 1024]

/-- Four sums of 1024 terms, added one after the other from zero, are the sum of the 4096 terms. -/
theorem sum_runs (f : Fin 4096 → BitVec 32) :
    IntOp.addi (IntOp.addi (IntOp.addi (IntOp.addi 0#32 (∑ x : Fin 1024, f ⟨x, by omega⟩))
      (∑ x : Fin 1024, f ⟨1024 + x, by omega⟩)) (∑ x : Fin 1024, f ⟨2048 + x, by omega⟩))
      (∑ x : Fin 1024, f ⟨3072 + x, by omega⟩) = ∑ k : Fin 4096, f k := by
  obtain ⟨g, hg⟩ : ∃ g : ℕ → BitVec 32, ∀ (n : ℕ) (h : n < 4096), f ⟨n, h⟩ = g n :=
    ⟨fun n => if h : n < 4096 then f ⟨n, h⟩ else 0, fun n h => by simp only [h, dif_pos]⟩
  have hs : ∑ k : Fin 4096, f k = ∑ k : Fin 4096, g k := Finset.sum_congr rfl fun k _ => hg k.val k.isLt
  rw [hs, sum_split]
  simp only [hg, IntOp.addi, BitVec.zero_add]

end Cert.Count

end
-- ==== Proof.Atoms.lean ====
/- The three results as functions of the positions of the 4096 atoms, and what the precondition says of the positions. -/
module

public import proofs.«01_k».proof.Proof.Pair
public import proofs.«01_k».proof.Proof.Count
public import proofs.«01_k».proof.Proof.Gen.Pre_general_position
public import Idealize.ShloMosaic.Lib.ReduceAll
public import Idealize.ShloMosaic.Lib.Pointwise
public import Idealize.ShloMosaic.Lib.Affine
public import Idealize.ShloMosaic.Lib.Routing.OpsOrder

@[expose] public section

set_option maxRecDepth 16384

noncomputable section

namespace Cert.Atoms

open Idealize.ShloMosaic Idealize.ShloMosaic.Routing

/-- The positions: three coordinates of each of the 4096 atoms. -/
abbrev Positions : Type := (⟨2, ![4096, 3]⟩ : Shape).Idx → EReal

/-- The squared distance of atoms `i` and `j`. -/
def dist2 (x : Positions) (i j : Fin 4096) : EReal :=
  Pair.d2 (x (ix2 i 0)) (x (ix2 i 1)) (x (ix2 i 2)) (x (ix2 j 0)) (x (ix2 j 1)) (x (ix2 j 2))

/-- First result: the length of each pair's edge, zero where there is none. -/
def lengths (x : Positions) : (⟨2, ![4096, 4096]⟩ : Shape).Idx → EReal := fun y => Pair.len (dist2 x (y 0) (y 1))

/-- Second result: whether each pair has an edge. -/
def marks (x : Positions) : (⟨2, ![4096, 4096]⟩ : Shape).Idx → BitVec 1 := fun y => Pair.near (dist2 x (y 0) (y 1))

/-- Third result: how many edges each atom has. -/
def counts (x : Positions) : (⟨1, ![4096]⟩ : Shape).Idx → BitVec 32 :=
  fun y => ∑ k : Fin 4096, (Pair.near (dist2 x (y 0) k)).setWidth 32

/-- Whether `i` and `j` are one atom, as a program's comparison of two counters tells it. -/
def same (i j : Fin 4096) : BitVec 1 := IntOp.cmpi .eq (IntOp.addi (BitVec.ofNat 32 i) 0#32) (BitVec.ofNat 32 j)

/-- The comparison of the counters tells whether the atoms are one. -/
theorem same_eq (i j : Fin 4096) : same i j = BitVec.ofBool (decide (i = j)) := by
  have h : (BitVec.ofNat 32 i.val = BitVec.ofNat 32 j.val) ↔ i = j := by
    rw [← BitVec.toNat_inj, BitVec.toNat_ofNat, BitVec.toNat_ofNat, Nat.mod_eq_of_lt (by omega), Nat.mod_eq_of_lt (by omega),
      Fin.ext_iff]
  rw [decide_eq_decide.mpr h.symm]
  unfold same IntOp.cmpi IntOp.addi
  rw [BitVec.add_zero]
  rfl

/-- A bit made of a truth value is one only for the true one. -/
theorem ofBool_eq_one {b : Bool} (h : BitVec.ofBool b = 1#1) : b = true := by cases b <;> simp_all

/-- A disjunction of bits that is one has a disjunct that is one. -/
theorem ori_eq_one {a b : BitVec 1} (h : IntOp.ori a b = 1#1) : a = 1#1 ∨ b = 1#1 := by
  rcases BitVec.eq_zero_or_eq_one a with rfl | rfl
  · rcases BitVec.eq_zero_or_eq_one b with rfl | rfl
    · exact absurd h (by decide)
    · exact Or.inr rfl
  · exact Or.inl rfl

/-- Two atoms: they are one atom, or differ in a coordinate; and their squared distance is off the cutoff. -/
theorem of_pre (x : Positions) (h : Cert.Pre_general_position.fn (F := Ideal) x = fun _ => 1#1) (i j : Fin 4096) :
    (i = j ∨ 0 < dist2 x i j) ∧ Pair.OffCutoff (dist2 x i j) := by
  unfold Cert.Pre_general_position.fn Cert.Pre_general_position.fn_part1 at h
  have hij := Host.reduce_andi_all _ _ _ _ _ (congrFun h ix0) (ix2 i j)
  clear h
  pointwise at hij
  have hd : ∑ c : Fin 3, (x (ix2 i c) - x (ix2 j c)) * (x (ix2 i c) - x (ix2 j c)) = dist2 x i j := Fin.sum_univ_three _
  rw [hd, Pair.lit_eps, Pair.lit_25, Pair.lit_after25] at hij
  obtain ⟨h1, h2⟩ := IntOp.andi_eq_one.mp hij
  have hs : IntOp.cmpi .eq (IntOp.addi (BitVec.ofNat 32 i) 0#32) (BitVec.ofNat 32 j) = BitVec.ofBool (decide (i = j)) :=
    same_eq i j
  rw [hs] at h1
  constructor
  · rcases ori_eq_one h1 with h1 | h1
    · rw [fold_ori] at h1
      obtain ⟨c, -, hc⟩ := h1
      refine Or.inr (Pair.d2_pos ?_)
      have hc' := of_decide_eq_true (ofBool_eq_one hc)
      fin_cases c
      · exact Or.inl hc'
      · exact Or.inr (Or.inl hc')
      · exact Or.inr (Or.inr hc')
    · exact Or.inl (of_decide_eq_true (ofBool_eq_one h1))
  · rcases ori_eq_one h2 with h2 | h2
    · exact Or.inl (of_decide_eq_true (ofBool_eq_one h2))
    · exact Or.inr (of_decide_eq_true (ofBool_eq_one h2))

end Cert.Atoms

end
-- ==== Proof.Block.lean ====
/- What one grid point stores: the three blocks of the kernel, each read at an index, over whatever blocks of atoms it
   was handed. -/
module

public import proofs.«01_k».proof.Proof.Pair
public import proofs.«01_k».proof.Proof.Count
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Block

open Idealize.ShloMosaic Idealize.ShloMosaic.TcCoe Idealize.SL.Sem
open Idealize.ShloMosaic.Pipeline (Dat)
open Cert.KernelIdeal Cert.KernelIdeal.Gen

/-- The squared distance of row `r` of the block of atoms and column `k` of the transposed atoms. -/
def dist2 (x0 : Vec Ideal S256x3 .f32) (x1 : Vec Ideal S3x4096 .f32) (r : Fin 256) (k : Fin 4096) : EReal :=
  Pair.d2 (x0 (ix2 r 0)) (x0 (ix2 r 1)) (x0 (ix2 r 2)) (x1 (ix2 0 k)) (x1 (ix2 1 k)) (x1 (ix2 2 k))

set_option maxHeartbeats 1600000 in
/-- The block of lengths: at a row and a column, the kernel's length of their squared distance. -/
theorem lengths (x0 : Vec Ideal S256x3 .f32) (x1 : Vec Ideal S3x4096 .f32) (y : S256x4096.Idx) :
    out0_2 x0 x1 y = Pair.len (dist2 x0 x1 (y 0) (y 1)) := by
  canon_tiles x h
  all_goals
    rw [show y 0 = x 0 from Fin.ext h0, show y 1 = ⟨_, lt_of_eq_of_lt h1.symm (y 1).isLt⟩ from Fin.ext h1]
    open_payloads
    pointwise [Pair.len, Pair.near, dist2, Pair.d2]

set_option maxHeartbeats 1600000 in
/-- The block of marks: at a row and a column, the kernel's test of their squared distance, as a byte. -/
theorem marks (x0 : Vec Ideal S256x3 .f32) (x1 : Vec Ideal S3x4096 .f32) (y : S256x4096.Idx) :
    out0_3 x0 x1 y = (Pair.near (dist2 x0 x1 (y 0) (y 1))).setWidth 8 := by
  canon_tiles x h
  all_goals
    rw [show y 0 = x 0 from Fin.ext h0, show y 1 = ⟨_, lt_of_eq_of_lt h1.symm (y 1).isLt⟩ from Fin.ext h1]
    open_payloads
    pointwise [Pair.len, Pair.near, dist2, Pair.d2]

set_option maxHeartbeats 1600000 in
/-- The block of counts: at a row, the sum over all columns of the kernel's test, the four runs of 1024 columns put
    together. -/
theorem counts (x0 : Vec Ideal S256x3 .f32) (x1 : Vec Ideal S3x4096 .f32) (y : S256x1.Idx) :
    out0_4 x0 x1 y = ∑ k : Fin 4096, (Pair.near (dist2 x0 x1 (y 0) k)).setWidth 32 := by
  rw [← Count.sum_runs]
  frame_out
  unfold_payloads
  pointwise [Pair.near, dist2, Pair.d2]
  simp only [Count.fold_addi]
  rfl

end Cert.Block

end
-- ==== Proof.Arrays.lean ====
/- What the kernel's three arrays hold after the run, and what the host operations make of them. -/
module

public import proofs.«01_k».proof.Proof.Atoms
public import proofs.«01_k».proof.Proof.Block

@[expose] public section

set_option maxRecDepth 16384

noncomputable section

namespace Cert.Arrays

open Idealize.ShloMosaic Idealize.ShloMosaic.TcCoe Idealize.SL.Sem
open Idealize.ShloMosaic.Pipeline (Dat)
open Cert.KernelIdeal Cert.KernelIdeal.Gen

/-- The windows' index maps: grid point `t` has row block `t`, and all the transposed atoms. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

variable (m : (ℓ : Loc nD τ sig) → Buf (Elt Ideal) ℓ) (c : Dev nD)

/-- The positions the kernel was handed. -/
abbrev pos : Atoms.Positions := m (c.tc.loc main_arg0)

/-- Row `r` of point `t`'s block of atoms is atom `256 t + r`. -/
theorem block_rows (t : Fin cfg0.N) (r : Fin 256) (a : Fin 3) (n : Fin 4096) (h : n.val = t.val * 256 + r.val) :
    iblk m c 0 t (ix2 r a) = pos m c (ix2 n a) := by
  blk_ext! [iblk, V, idx t]

/-- Column `k` of the transposed atoms is atom `k`. -/
theorem block_cols (t : Fin cfg0.N) (a : Fin 3) (k : Fin 4096) :
    iblk m c 1 t (ix2 a k) = pos m c (ix2 k a) := by
  have h : iblk m c 1 t (ix2 a k) = V m c main_v0 (ix2 a k) := by blk_ext [iblk, idx t]
  rw [h]
  show StableHlo.after hostOps0 (fun b => m (c, b)) (Proc.devRef .tc main_v0) (ix2 a k) = _
  entry_read
  pointwise

/-- The squared distance within a point's blocks is the squared distance of the two atoms. -/
theorem block_dist2 (t : Fin cfg0.N) (r : Fin 256) (k n l : Fin 4096) (hn : n.val = t.val * 256 + r.val) (hl : l.val = k.val) :
    Block.dist2 (iblk m c 0 t) (iblk m c 1 t) r k = Atoms.dist2 (pos m c) n l := by
  obtain rfl : l = k := Fin.ext hl
  unfold Block.dist2 Atoms.dist2
  rw [block_rows m c t r 0 n hn, block_rows m c t r 1 n hn, block_rows m c t r 2 n hn, block_cols, block_cols, block_cols]

/-- The kernel's first array after the run: the lengths. -/
theorem final_lengths : (dats m 0 c).arrAt 2 (cfgs 0).N = Atoms.lengths (pos m c) := by
  refine (dats m 0 c).arrAt_eq_of_covers 2 _ (by decide +kernel) fun t _ y => ?_
  blk_simp
  rw [after0_2, Block.lengths]
  exact congrArg Pair.len (block_dist2 m c t _ _ _ _ (by blk_simp [idx t]) (by blk_simp [idx t]))

/-- The kernel's second array after the run: the marks, as bytes. -/
theorem final_marks : (dats m 0 c).arrAt 3 (cfgs 0).N = fun y => (Atoms.marks (pos m c) y).setWidth 8 := by
  refine (dats m 0 c).arrAt_eq_of_covers 3 _ (by decide +kernel) fun t _ y => ?_
  blk_simp
  rw [after0_3, Block.marks]
  exact congrArg (fun d => (Pair.near d).setWidth 8)
    (block_dist2 m c t _ _ _ _ (by blk_simp [idx t]) (by blk_simp [idx t]))

/-- The kernel's third array after the run: the counts, as one column. -/
theorem final_counts : (dats m 0 c).arrAt 4 (cfgs 0).N = fun y => Atoms.counts (pos m c) (ix1 (y 0)) := by
  refine (dats m 0 c).arrAt_eq_of_covers 4 _ (by decide +kernel) fun t _ y => ?_
  blk_simp
  rw [after0_4, Block.counts]
  exact Finset.sum_congr (M := BitVec 32) rfl fun k _ => congrArg (fun d => (Pair.near d).setWidth 32)
    (block_dist2 m c t _ _ _ _ (by blk_simp [idx t]) rfl)

end Cert.Arrays

end
-- ==== Proof.KernelRun.lean ====
/- What the kernel's program leaves in its three results. -/
module

public import proofs.«01_k».proof.Proof.Arrays
public import Idealize.ShloMosaic.Lib.Claim

@[expose] public section

set_option maxRecDepth 16384

noncomputable section

namespace Cert.KernelRun

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The memory that the host operations after the kernel find: the kernel's arrays as it left them. -/
abbrev left : Valuation τ sig (Elt Ideal) :=
  Pipeline.withArrays (cfgs 0).spec c (V0 m c) fun w => (dats m 0 c).arrAt w (cfgs 0).N

/-- They find the marks as bytes. -/
theorem left_marks : left m c (Proc.devRef .tc main_v1_1) = fun y => (Atoms.marks (Arrays.pos m c) y).setWidth 8 :=
  (Pipeline.withArrays_arr (cfgs 0).spec (by decide) c (V0 m c) (fun w => (dats m 0 c).arrAt w (cfgs 0).N) 3).trans
    (Arrays.final_marks m c)

/-- They find the counts as one column. -/
theorem left_counts : left m c (Proc.devRef .tc main_v1_2) = fun y => Atoms.counts (Arrays.pos m c) (ix1 (y 0)) :=
  (Pipeline.withArrays_arr (cfgs 0).spec (by decide) c (V0 m c) (fun w => (dats m 0 c).arrAt w (cfgs 0).N) 4).trans
    (Arrays.final_counts m c)

/-- A bit widened to a byte is not zero exactly when the bit is one. -/
theorem ne_zero_byte (b : BitVec 1) : IntOp.cmpi .ne (b.setWidth 8) 0#8 = b := by
  rcases BitVec.eq_zero_or_eq_one b with rfl | rfl <;> decide

/-- The second result: the bytes compared with zero are the marks. -/
theorem tail_marks : Pipeline.afterTail₀ cfgs (dats m) 0 (V0 m) [hostOps1] c main_v4 = Atoms.marks (Arrays.pos m c) := by
  show StableHlo.after hostOps1 (left m c) (Proc.devRef .tc main_v4) = _
  entry_read
  rw [left_marks]
  funext y
  pointwise
  exact ne_zero_byte _

/-- The third result: the column of counts as a list. -/
theorem tail_counts : Pipeline.afterTail₀ cfgs (dats m) 0 (V0 m) [hostOps1] c main_v5 = Atoms.counts (Arrays.pos m c) := by
  show StableHlo.after hostOps1 (left m c) (Proc.devRef .tc main_v5) = _
  entry_read
  rw [left_counts]
  funext y
  pointwise

/-- The kernel's program ends with the lengths, the marks and the counts of the positions it was handed, and leaves the
    positions as they were. -/
theorem results (g : Dev nD → PrngReg) :
    θ_run defs (onTc (τ := τ) (main (F := Ideal))) ⟨m, fun _ => 0, g⟩ fun r => ∀ c : Dev nD,
      r.2.mem (c.tc.loc main_v1_0) = Atoms.lengths (Arrays.pos m c)
      ∧ r.2.mem (c.tc.loc main_v4) = Atoms.marks (Arrays.pos m c)
      ∧ r.2.mem (c.tc.loc main_v5) = Atoms.counts (Arrays.pos m c)
      ∧ r.2.mem (c.tc.loc main_arg0) = m (c.tc.loc main_arg0) := by
  run_from run_main m g
  · exact Arrays.final_lengths m c
  · exact tail_marks m c
  · exact tail_counts m c

end Cert.KernelRun

end
-- ==== Proof.Reference.lean ====
/- What the reference computes, read at a pair of atoms. -/
module

public import proofs.«01_k».proof.Proof.Atoms
public import proofs.«01_k».proof.Proof.Gen.ReferenceIdeal.Read

@[expose] public section

set_option maxRecDepth 16384

noncomputable section

namespace Cert.Reference

open Idealize.ShloMosaic Cert.Atoms
open Cert.ReferenceIdeal

/-- The reference's squared distance: the three squares summed from zero. -/
theorem dist2_apply (x : Positions) (i j : Fin 4096) : Read.val_main_v6 (F := Ideal) x (ix2 i j) = dist2 x i j := by
  pointwise [Read.val_main_v6, Read.val_main_v5, Read.val_main_v4, Read.val_main_v3, Read.val_main_v2, Read.val_main_v1,
    Read.val_main_v0, Read.val_main_cst, dist2, Pair.d2, Fin.sum_univ_three]

/-- The reference's test of a pair. -/
theorem mark_apply (x : Positions) (i j : Fin 4096) :
    Read.val_main_v18 (F := Ideal) x (ix2 i j) = Pair.near' (dist2 x i j) (same i j) := by
  rw [← dist2_apply]
  pointwise [Read.val_main_v18, Read.val_main_v17, Read.val_main_v16, Read.val_main_v15, Read.val_main_v14, Read.val_main_v13,
    Read.val_main_v12, Read.val_main_v11, Read.val_main_v10, Read.val_main_v9, Read.val_main_v8, Read.val_main_v7,
    Read.val_main_cst_0, Read.val_main_cst_1, Read.val_main_c, Pair.near', same]

/-- The reference's length of a pair. -/
theorem length_apply (x : Positions) (i j : Fin 4096) :
    Read.val_main_v20 (F := Ideal) x (ix2 i j) = Pair.len' (dist2 x i j) (same i j) := by
  have h := mark_apply x i j
  rw [← dist2_apply] at h ⊢
  unfold Pair.len'
  rw [← h]
  pointwise [Read.val_main_v20, Read.val_main_v19, Read.val_main_call0_v1, Read.val_main_call0_v0,
    Read.val_main_cst_2, id_eq]

/-- The reference's count of an atom. -/
theorem count_apply (x : Positions) (i : Fin 4096) :
    Read.val_main_v22 (F := Ideal) x (ix1 i) = ∑ k : Fin 4096, (Pair.near' (dist2 x i k) (same i k)).setWidth 32 := by
  simp only [← mark_apply]
  simp only [Read.val_main_v22, Read.val_main_v21]
  pointwise [Read.val_main_c_3]
  simp only [Count.fold_addi]

/-- The two programs' tests of a pair agree where the precondition holds. -/
theorem near_agree (x : Positions) (h : Cert.Pre_general_position.fn (F := Ideal) x = fun _ => 1#1) (i j : Fin 4096) :
    Pair.near (dist2 x i j) = Pair.near' (dist2 x i j) (same i j) := by
  obtain ⟨ha, hc⟩ := of_pre x h i j
  rw [same_eq]
  by_cases hij : i = j
  · subst hij
    rw [decide_eq_true rfl]
    exact Pair.near_self (Pair.d2_self _ _ _)
  · rw [decide_eq_false hij]
    exact Pair.near_ne (ha.resolve_left hij) hc

/-- The reference's first result is the kernel's. -/
theorem lengths_eq (x : Positions) (h : Cert.Pre_general_position.fn (F := Ideal) x = fun _ => 1#1) :
    Read.val_main_v20 (F := Ideal) x = lengths x := by
  funext y
  exact (congrArg _ (eq_ix2 y)).trans ((length_apply x (y 0) (y 1)).trans
    (Pair.len_eq (Pair.d2_nonneg _ _ _ _ _ _) (near_agree x h (y 0) (y 1))).symm)

/-- The reference's second result is the kernel's. -/
theorem marks_eq (x : Positions) (h : Cert.Pre_general_position.fn (F := Ideal) x = fun _ => 1#1) :
    Read.val_main_v18 (F := Ideal) x = marks x := by
  funext y
  exact (congrArg _ (eq_ix2 y)).trans ((mark_apply x (y 0) (y 1)).trans (near_agree x h (y 0) (y 1)).symm)

/-- The reference's third result is the kernel's. -/
theorem counts_eq (x : Positions) (h : Cert.Pre_general_position.fn (F := Ideal) x = fun _ => 1#1) :
    Read.val_main_v22 (F := Ideal) x = counts x := by
  funext y
  exact (congrArg _ (eq_ix1 y)).trans ((count_apply x (y 0)).trans
    (Finset.sum_congr rfl fun k _ => congrArg (BitVec.setWidth 32) (near_agree x h (y 0) k).symm))

end Cert.Reference

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Gen.Pre_general_position
public import proofs.«01_k».proof.Proof.KernelRun
public import proofs.«01_k».proof.Proof.Reference
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference leaves the positions as they were. It has no semaphore, so every counter is at zero. -/
theorem reference_frame {F : FTy → Type} [FloatOps F]
    (m : (ℓ : Loc Cert.ReferenceIdeal.nD Cert.ReferenceIdeal.τ Cert.ReferenceIdeal.sig) → Buf (Elt F) ℓ)
    (g : Dev Cert.ReferenceIdeal.nD → PrngReg) :
    θ_run Cert.ReferenceIdeal.defs (onTc (τ := Cert.ReferenceIdeal.τ) (Cert.ReferenceIdeal.main (F := F))) ⟨m, fun _ => 0, g⟩
      fun r => (∀ c : Dev Cert.ReferenceIdeal.nD,
          r.2.mem (c.tc.loc Cert.ReferenceIdeal.main_arg0) = m (c.tc.loc Cert.ReferenceIdeal.main_arg0))
        ∧ r.2.sem = fun _ => 0 :=
  (θ_run _ _ _).mono (fun r h => ⟨fun c => (h c).2.2.2, sem_eq_zero_of_no_sems rfl r.2⟩) (Cert.ReferenceIdeal.Value.run m g)

/-- The claims: the three programs end, leave the positions as they were and every counter at zero; the kernel in extended
    reals is the kernel's own operations; and where no two atoms coincide and none lies just past the cutoff, the kernel's
    three results are the reference's. -/
theorem claim : Cert.Claim := ⟨Cert.Kernel.Gen.facts, Cert.KernelIdeal.Gen.facts, Cert.ReferenceIdeal.Gen.facts, Cert.Pre_general_position.Gen.facts, by
  refine ⟨fun m g _ => Cert.Kernel.Gen.frame m g, fun m g _ => Cert.KernelIdeal.Gen.frame m g,
    fun m g _ => Cert.KernelIdeal.Gen.frame m g, fun m g _ => reference_frame m g,
    fun m g _ => reference_frame m g, trivial, ?_⟩
  · intro m g m' g' hpre hagree
    refine ⟨fun c => Cert.Atoms.lengths (Cert.Arrays.pos m c), fun c => Cert.Atoms.marks (Cert.Arrays.pos m c),
      fun c => Cert.Atoms.counts (Cert.Arrays.pos m c), Cert.KernelRun.results m g, ?_⟩
    refine (θ_run _ _ _).mono (fun r h c => ?_) (Cert.ReferenceIdeal.Value.run m' g')
    obtain ⟨h0, h1, h2, h3⟩ := h c
    have hx : m' (c.tc.loc Cert.ReferenceIdeal.main_arg0) = Cert.Arrays.pos m c := hagree c
    rw [Cert.ReferenceIdeal.Read.val_main_v20_eq, hx] at h0
    rw [Cert.ReferenceIdeal.Read.val_main_v18_eq, hx] at h1
    rw [Cert.ReferenceIdeal.Read.val_main_v22_eq, hx] at h2
    exact ⟨h0.trans (Cert.Reference.lengths_eq _ (hpre c)), h1.trans (Cert.Reference.marks_eq _ (hpre c)),
      h2.trans (Cert.Reference.counts_eq _ (hpre c)), h3⟩⟩

end Cert.Proof

end
